-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_documents [hPre_documents : Cert.Pre_documents.Facts] (m : (ℓ : Loc Cert.KernelIdeal.nD Cert.KernelIdeal.τ Cert.KernelIdeal.sig) → Buf (Elt Ideal) ℓ) : Prop :=
  ∀ c : Dev Cert.KernelIdeal.nD,
    (Cert.Pre_documents.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_documents [hPre_documents : Cert.Pre_documents.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_documents.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_documents [hKernelIdeal : Cert.KernelIdeal.Facts] [hPre_documents : Cert.Pre_documents.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_documents m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_documents [hReferenceIdeal : Cert.ReferenceIdeal.Facts] [hPre_documents : Cert.Pre_documents.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_documents m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_documents [hKernelIdeal : Cert.KernelIdeal.Facts] [hReferenceIdeal : Cert.ReferenceIdeal.Facts] [hPre_documents : Cert.Pre_documents.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_documents m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_documents : Cert.Pre_documents.Facts),
    quiescent_Kernel (hKernel := hKernel)
    ∧ quiescent_KernelIdeal (hKernelIdeal := hKernelIdeal)
    ∧ quiescent_KernelIdeal_pre_documents (hKernelIdeal := hKernelIdeal) (hPre_documents := hPre_documents)
    ∧ quiescent_ReferenceIdeal (hReferenceIdeal := hReferenceIdeal)
    ∧ quiescent_ReferenceIdeal_pre_documents (hReferenceIdeal := hReferenceIdeal) (hPre_documents := hPre_documents)
    ∧ preserves_Kernel_KernelIdeal
    ∧ algebraic_KernelIdeal_ReferenceIdeal_pre_documents (hKernelIdeal := hKernelIdeal) (hReferenceIdeal := hReferenceIdeal) (hPre_documents := hPre_documents)
-- ==== Pre_documents.lean ====
abbrev S16384x768 : Shape := ⟨2, ![16384, 768]⟩
abbrev S17 : Shape := ⟨1, ![17]⟩
abbrev S768x768 : Shape := ⟨2, ![768, 768]⟩
abbrev S768 : Shape := ⟨1, ![768]⟩
abbrev S1 : Shape := ⟨1, ![1]⟩
abbrev S_ : Shape := ⟨0, ![]⟩
abbrev S16 : Shape := ⟨1, ![16]⟩

class Facts : Prop where
  slices_S17_S1_0 : S17.Slices ![0] S1
  shapeCasts_S1_S_ : S1.ShapeCasts S_
  slices_S17_S16_0 : S17.Slices ![0] S16
  slices_S17_S16_1 : S17.Slices ![1] S16
  reducesTo_S16_S_d0 : S16.ReducesTo [0] S_
  h_S_ : 0 < S_.numel
  slices_S17_S1_16 : S17.Slices ![16] S1
  bcast_S_S768 : S_.BroadcastsInDim S768 (![] : Fin 0 → Fin S768.rank)
  reducesTo_S768_S_d0 : S768.ReducesTo [0] S_

variable [Facts]

def fn {F : FTy → Type} [FloatOps F] (main_arg0 : FVec F S16384x768 .f32) (main_arg1 : IVec S17 32) (main_arg2 : FVec F S768x768 .f32) (main_arg3 : FVec F S768 .f32) : IVec S_ 1 :=
  let main_v0 : IVec S1 32 := (extractStridedSlice S1 ![0] · slices_S17_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S16 32 := (extractStridedSlice S16 ![0] · slices_S17_S16_0) main_arg1
  let main_v4 : IVec S16 32 := (extractStridedSlice S16 ![1] · slices_S17_S16_1) main_arg1
  let main_v5 : IVec S16 1 := cmpi .sle main_v3 main_v4
  let main_c_0 : IVec S_ 1 := constantI S_ 1 1#1
  let main_v6 : IVec S_ 1 := (fun x v => Host.reduce IntOp.andi x v reducesTo_S16_S_d0 h_S_) main_v5 main_c_0
  let main_v7 : IVec S_ 1 := andi main_v2 main_v6
  let main_v8 : IVec S1 32 := (extractStridedSlice S1 ![16] · slices_S17_S1_16) main_arg1
  let main_v9 : IVec S_ 32 := shapeCast S_ main_v8 shapeCasts_S1_S_
  let main_c_1 : IVec S_ 32 := constantI S_ 32 16384#32
  let main_v10 : IVec S_ 1 := cmpi .eq main_v9 main_c_1
  let main_v11 : IVec S_ 1 := andi main_v7 main_v10
  let main_cst : FVec F S_ .f32 := constant S_ .f32 0x00000000#32
  let main_v12 : FVec F S768 .f32 := broadcastInDim S768 ![] bcast_S_S768 main_cst
  let main_v13 : IVec S768 1 := cmpf .oeq main_arg3 main_v12
  let main_c_2 : IVec S_ 1 := constantI S_ 1 1#1
  let main_v14 : IVec S_ 1 := (fun x v => Host.reduce IntOp.andi x v reducesTo_S768_S_d0 h_S_) main_v13 main_c_2
  let main_v15 : IVec S_ 1 := andi main_v11 main_v14
  main_v15
-- ==== Kernel.lean ====
abbrev S16384x768 : Shape := ⟨2, ![16384, 768]⟩
abbrev S17 : Shape := ⟨1, ![17]⟩
abbrev S768x768 : Shape := ⟨2, ![768, 768]⟩
abbrev S768 : Shape := ⟨1, ![768]⟩
abbrev S16x768 : Shape := ⟨2, ![16, 768]⟩
abbrev S2048x768 : Shape := ⟨2, ![2048, 768]⟩
abbrev S1x2048 : Shape := ⟨2, ![1, 2048]⟩
abbrev S1 : Shape := ⟨1, ![1]⟩
abbrev S16x2048 : Shape := ⟨2, ![16, 2048]⟩

abbrev nBuf : Space → Nat
  | .hbm => 5
  | .vmem => 5
  | .smem => 1
  | _ => 0

abbrev bufTy : (tb : Table) → Fin (tcTables nBuf tb) → BufTy
  | .hbm, ⟨0, _⟩ => ⟨S16384x768, .f32⟩
  | .hbm, ⟨1, _⟩ => ⟨S768x768, .f32⟩
  | .hbm, ⟨2, _⟩ => ⟨S768, .f32⟩
  | .hbm, ⟨3, _⟩ => ⟨S768x768, .bf16⟩
  | .hbm, ⟨4, _⟩ => ⟨S16x768, .f32⟩
  | .local _ .vmem, ⟨0, _⟩ => ⟨S2048x768, .f32⟩
  | .local _ .vmem, ⟨1, _⟩ => ⟨S2048x768, .f32⟩
  | .local _ .vmem, ⟨2, _⟩ => ⟨S768x768, .bf16⟩
  | .local _ .vmem, ⟨3, _⟩ => ⟨S16x768, .f32⟩
  | .local _ .vmem, ⟨4, _⟩ => ⟨S2048x768, .bf16⟩
  | .local _ .smem, ⟨0, _⟩ => ⟨S17, .i32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_call0_v0 : Ref sig .tc := ⟨.hbm, 3, rfl⟩
abbrev main_v0 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v242 : BitVec 1 := Scalar.cmpi .eq arg0 c0_i32
  let v243 : BitVec 32 := Scalar.extui v242
  let c0_i32_72 : BitVec 32 := 0#32
  let v244 : BitVec 1 := Scalar.cmpi .ne v243 c0_i32_72
  v244

def k0_cond2 (i : grid0.Coords) : BitVec 1 :=
  let arg0 : BitVec 32 := BitVec.ofNat 32 (i 0).val
  let c0_i32_73 : BitVec 32 := 0#32
  let v245 : BitVec 1 := Scalar.cmpi .sgt arg0 c0_i32_73
  let v246 : BitVec 32 := Scalar.extui v245
  let c0_i32_74 : BitVec 32 := 0#32
  let v247 : BitVec 1 := Scalar.cmpi .ne v246 c0_i32_74
  v247

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x768 : Shape := ⟨2, ![16384, 768]⟩
abbrev S17 : Shape := ⟨1, ![17]⟩
abbrev S768x768 : Shape := ⟨2, ![768, 768]⟩
abbrev S768 : Shape := ⟨1, ![768]⟩
abbrev S1x768 : Shape := ⟨2, ![1, 768]⟩
abbrev S15 : Shape := ⟨1, ![15]⟩
abbrev S1x15 : Shape := ⟨2, ![1, 15]⟩
abbrev S16384 : Shape := ⟨1, ![16384]⟩
abbrev S16384x1 : Shape := ⟨2, ![16384, 1]⟩
abbrev S16384x15 : Shape := ⟨2, ![16384, 15]⟩
abbrev S_ : Shape := ⟨0, ![]⟩
abbrev S16x768 : Shape := ⟨2, ![16, 768]⟩
abbrev S16 : Shape := ⟨1, ![16]⟩
abbrev S16x1 : Shape := ⟨2, ![16, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S17, .i32⟩
  | .hbm, ⟨2, _⟩ => ⟨S768x768, .f32⟩
  | .hbm, ⟨3, _⟩ => ⟨S768, .f32⟩
  | .hbm, ⟨4, _⟩ => ⟨S16384x768, .f32⟩
  | .hbm, ⟨5, _⟩ => ⟨S1x768, .f32⟩
  | .hbm, ⟨6, _⟩ => ⟨S16384x768, .f32⟩
  | .hbm, ⟨7, _⟩ => ⟨S16384x768, .f32⟩
  | .hbm, ⟨8, _⟩ => ⟨S16384x768, .f32⟩
  | .hbm, ⟨9, _⟩ => ⟨S15, .i32⟩
  | .hbm, ⟨10, _⟩ => ⟨S1x15, .i32⟩
  | .hbm, ⟨11, _⟩ => ⟨S16384, .i32⟩
  | .hbm, ⟨12, _⟩ => ⟨S16384x1, .i32⟩
  | .hbm, ⟨13, _⟩ => ⟨S16384x15, .i32⟩
  | .hbm, ⟨14, _⟩ => ⟨S16384x15, .i32⟩
  | .hbm, ⟨15, _⟩ => ⟨S16384x15, .i1⟩
  | .hbm, ⟨16, _⟩ => ⟨S16384x15, .i32⟩
  | .hbm, ⟨17, _⟩ => ⟨S_, .i32⟩
  | .hbm, ⟨18, _⟩ => ⟨S16384, .i32⟩
  | .hbm, ⟨19, _⟩ => ⟨S_, .f32⟩
  | .hbm, ⟨20, _⟩ => ⟨S16x768, .f32⟩
  | .hbm, ⟨21, _⟩ => ⟨S16384x1, .i32⟩
  | .hbm, ⟨22, _⟩ => ⟨S16x768, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16, .f32⟩
  | .hbm, ⟨27, _⟩ => ⟨S16384x1, .i32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16x1, .f32⟩
  | .hbm, ⟨33, _⟩ => ⟨S16x768, .f32⟩
  | .hbm, ⟨34, _⟩ => ⟨S16x768, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Pool.Setup.lean ====
/-
  The launch of the pooled-means kernel: what its memory holds when the pipeline starts, the
  pipeline at the document bounds it prefetched, the schedule of the three windows, and the two
  branch conditions of the body in terms of the grid point.
-/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Tactic

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## Memory when the pipeline starts -/

/-- What core `c`'s buffers hold once the weights have been rounded and the pipeline starts. -/
abbrev start (c : Dev nD) (b : Ref sig .tc) : Buf (Elt F) ((c : Thread nD τ).loc b) :=
  StableHlo.after hostOps0 (fun b => m (c, b)) b

/-- The rounding of the weights allocates nothing. -/
theorem round_fresh : (hostOps0 : List (HloOp τ sig (Elt F))).Forall fun op => op.fresh = ∅ := by
  simp only [List.Forall]; rfl

/-- `main` rounds the weights and enters the pipeline. -/
theorem enters (𝒱₀ : Variants) :
    Pipeline.HMainP (Ix := Unit) (Name := ℕ) (U := UR sig nD τ) (Lvl := ℕ) pcfgs 0 defs₀ 𝒱₀ m (main (F := F)) (start m) :=
  Pipeline.hmainP_prefix pcfgs 0 defs₀ 𝒱₀ m main hostOps0 hostOps0_sub round_fresh main_chain

/-- A buffer other than the rounded weights' is found as it was launched. -/
theorem start_of_ne (c : Dev nD) (b : Ref sig .tc) (h : b ≠ main_call0_v0) :
    start m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))

/-- The prefetched document bounds. -/
def bounds : pre0.Contents (Elt F) := fun j => start m (0 : Dev nD) (pre0.ref j)

/-- There is one device, so every device prefetches the same bounds. -/
theorem start_bounds (c : Dev nD) (j : Fin 1) : start m c (pre0.ref j) = bounds m j := by
  obtain rfl : c = 0 := Subsingleton.elim _ _; rfl

/-- No index map reads the bounds, so any bounds are admissible. -/
abbrev adm : (pcfg0 (F := F)).Adm := ⟨bounds m, trivial⟩

/-- The pipeline at the bounds. -/
abbrev pipe : Pipeline.Cfg sig Λ₀ := cfg0 (adm m)

/-- The bounds as the body is handed them. -/
abbrev cuRef : Memref sig .tc .smem S17 .i32 := Memref.whole main_arg1

/-- The contents of the bounds' buffer on core `c`. -/
abbrev CuBuf (c : Dev nD) : Type := Buf (Elt F) (cuRef.view.loc (c : Thread nD τ))

/-- The bounds' buffer held for reading. -/
abbrev cuHeld (c : Dev nD) {S : Shape} {e : EltTy} (M : Memref sig .tc .smem S e) (f : Buf (Elt F) (M.view.loc (c : Thread nD τ))) : sProp 𝕄 :=
  M.view.loc (c : Thread nD τ) ↦{fullShare.right} f

/-- What the region hands the body of the prefetched operand. -/
theorem tables_eq (c : Dev nD) :
    (Pipeline.ΦT pre0 (bounds m) c : sProp 𝕄) = iprop(cuHeld c cuRef (bounds m 0)) := by
  unfold Pipeline.ΦT Pipeline.prefHeld
  rw [show (Finset.univ : Finset (Fin 1)) = {(0 : Fin 1)} from by decide, bigSep_singleton]
  rfl

/-- What the region hands the body besides: the scratch block and the generator's register. -/
theorem scratch_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]

/-! ## The windows -/

/-- Window `w`'s block at point `t`, read off the array as the pipeline finds it. -/
def block (c : Dev nD) (w : Fin (pipe m).W) (t : Fin (pipe m).N) :
    (((pipe m).win w).xblock ((pipe m).grid.coords t)).Idx → Elt F ((pipe m).win w).elt :=
  (((pipe m).win w).blk t).view.read (Elt F) (start m c (Pipeline.arrRef spec0 w))

/-- An input's staging buffer holds its block at every point: the rows of `flat` are fetched afresh,
    the weights stay. Stated for any proof data over the starting arrays. -/
theorem before_rows {c : Dev nD} (dat : Dat τ (Elt F) Unit ℕ (UR sig nD τ) ℕ (pipe m) c)
    (hA : dat.A 0 = start m c (Pipeline.arrRef spec0 0)) (ha : ∀ t, dat.after 0 t = block m c 0 t)
    (t : Fin (pipe m).N) (d) : dat.before 0 t d = block m c 0 t :=
  (dat.before_in_eq_fetched 0 rfl (fun _ => rfl) (fun _ _ _ => rfl)
    (fun t => by rw [ha]; unfold Dat.blockOf block; rw [hA]; try rfl) t d).trans
    (by unfold Dat.fetched Dat.blockOf block; rw [hA]; try rfl)

/-- The same of the weights. -/
theorem before_weights {c : Dev nD} (dat : Dat τ (Elt F) Unit ℕ (UR sig nD τ) ℕ (pipe m) c)
    (hA : dat.A 1 = start m c (Pipeline.arrRef spec0 1)) (ha : ∀ t, dat.after 1 t = block m c 1 t)
    (t : Fin (pipe m).N) (d) : dat.before 1 t d = block m c 1 t :=
  (dat.before_in_eq_fetched 1 rfl (fun _ => rfl) (fun _ _ _ => rfl)
    (fun t => by rw [ha]; unfold Dat.blockOf block; rw [hA]; try rfl) t d).trans
    (by unfold Dat.fetched Dat.blockOf block; rw [hA]; try rfl)

/-- The means are written back after the last point only. -/
theorem flush_means : ∀ t : Fin (pipe m).N, ((pipe m).win 2).flush t = true ↔ t.val % 8 = 7 :=
  (fun t => Pipeline.Window.flushOf_const cc0_transform_2 (fun _ _ => rfl) (n := 8) (by decide) rfl t :
    ∀ t : Fin grid0.N, Pipeline.Window.flushOf grid0 true cc0_transform_2 t = true ↔ t.val % 8 = 7)

/-- The staging buffers of the three windows at point `t`. -/
abbrev st0 (t : Fin (pipe m).N) : Memref sig .tc .vmem S2048x768 .f32 := spec0_0.stage ((pipe m).slots t 0)
abbrev st1 (t : Fin (pipe m).N) : Memref sig .tc .vmem S768x768 .bf16 := spec0_1.stage ((pipe m).slots t 1)
abbrev st2 (t : Fin (pipe m).N) : Memref sig .tc .vmem S16x768 .f32 := spec0_2.stage ((pipe m).slots t 2)

/-- The body at point `t`, on the staging buffers the pipeline calls it with. -/
abbrev bodyAt (t : Fin (pipe m).N) : Prog (TpuEff nD τ sig (Elt F) Λ₀ .tc) PUnit :=
  cc0__fused_kernel (grid0.coords t) cuRef (Memref.isWhole_whole _)
    (st0 m t) (hstage0_0 (((pipe m).slots t 0).cast nbuf0_0))
    (st1 m t) (hstage0_1 (((pipe m).slots t 1).cast nbuf0_1))
    (st2 m t) (hstage0_2 (((pipe m).slots t 2).cast nbuf0_2))
    (Memref.whole cc0_scratch0) (Memref.isWhole_whole _)

/-- The pipeline's call of the body is `bodyAt`. -/
theorem call_eq (t : Fin (pipe m).N) :
    defs₀ (F := F) .tc (pipe m).body ((pipe m).bodyArgs t ((pipe m).slots t)) = bodyAt m t := by
  unfold defs₀; rw [Defs.onTc_tc]

/-! ## The two conditions of the body -/

/-- The means are overwritten at the first point and at no other. -/
theorem first_iff : ∀ t : Fin grid0.N, k0_cond1 (grid0.coords t) = 1#1 ↔ t.val = 0 := by decide +kernel

/-- The means are added to at every point but the first. -/
theorem later_iff : ∀ t : Fin grid0.N, k0_cond2 (grid0.coords t) = 1#1 ↔ t.val ≠ 0 := by decide +kernel

/-- So some store into the means happens at every point. -/
theorem means_live : ∀ i : grid0.Coords, idle0 2 i = false := by decide +kernel

end Cert.KernelIdeal.Pool

end
-- ==== Proof.Pool.Body.lean ====
/-
  One run of the pooled-means body: what it leaves in the means' staging buffer, at the first
  point of the grid and at a later one.
-/
module

public import proofs.«01_k».proof.Proof.Pool.Setup
public import Idealize.ShloMosaic.Lib.ValueIdx
public import Idealize.ShloMosaic.Lib.Pipeline.Value

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

open Idealize.ShloMosaic.ValueIdx

/-! ## What one block computes -/

/-- One bound's place among the seventeen. -/
theorem inb_bound (k : ℕ) (h : k < 17) : ∀ a, (![k] : Fin 1 → Nat) a + S1.size a ≤ S17.size a := fun a => by
  fin_cases a; simpa using h

/-- Document bound number `k` of the prefetched ones, as the body reads it. -/
def bound (cu : S17.Idx → BitVec 32) (k : ℕ) : BitVec 32 :=
  if h : k < 17 then
    View.readAt (Elt fun _ => Unit) cuRef.view (Rect.unit (s := S17) ![k] S1.size (inb_bound k h)).toLoadRect cu (Shape.Idx.first (s := S1) (by decide))
  else 0#32

/-- It is the array's element. -/
theorem bound_eq (cu : S17.Idx → BitVec 32) (k : ℕ) (h : k < 17) : bound cu k = cu (ix1 ⟨k, h⟩) := by
  unfold bound
  rw [dif_pos h]
  refine congrArg cu (funext fun a => ?_)
  match a with
  | ⟨0, _⟩ =>
    refine Fin.ext ?_
    show k + 1 * (Shape.Idx.first (s := S1) _ 0).val = k
    have : (Shape.Idx.first (s := S1) (by decide) 0).val < 1 := Fin.isLt _
    omega

/-- The token numbers of the block at grid point `i`. -/
def tokens (i : grid0.Coords) : IVec S1x2048 32 :=
  addi (iota .tc S1x2048 32 [1] iota_S1x2048_d1_w32)
    (broadcast S1x2048 (Scalar.muli (BitVec.ofNat 32 (i 0).val) 2048#32))

/-- The weight of a token in the document from `lo` to `hi`: the reciprocal of the document's
    length inside it, and zero outside. -/
def docRow (i : grid0.Coords) (lo hi : BitVec 32) : FVec F S1x2048 .f32 :=
  select (andi (cmpi .sge (tokens i) (broadcast S1x2048 lo)) (cmpi .slt (tokens i) (broadcast S1x2048 hi)))
    (broadcast S1x2048 (Scalar.divf (Scalar.ofBits (F := F) .f32 0x3F800000#32)
      (Scalar.maximumf (Scalar.sitofp .f32 (Scalar.subi hi lo)) (Scalar.ofBits .f32 0x3F800000#32))))
    (broadcast S1x2048 (Scalar.ofBits .f32 0x00000000#32))

/-- The sixteen documents' rows one above the other. -/
def docRows (i : grid0.Coords) (cu : S17.Idx → BitVec 32) : FVec F S16x2048 .f32 :=
  concatenate S16x2048 0
    (List.ofFn fun s : Fin 16 => ⟨S1x2048, docRow (F := F) i (bound cu s.val) (bound cu (s.val + 1))⟩)
    concatenates_S1x2048_S1x2048_S1x2048_S1x2048_S1x2048_S1x2048_S1x2048_S1x2048_S1x2048_S1x2048_S1x2048_S1x2048_S1x2048_S1x2048_S1x2048_S1x2048_S16x2048_d0

/-- The block's part of the means: the documents' rows times the activated rows of the block. -/
def part (i : grid0.Coords) (x : Vec F S2048x768 .f32) (w : Vec F S768x768 .bf16) (cu : S17.Idx → BitVec 32) :
    FVec F S16x768 .f32 :=
  k0_pay4 (k0_pay7 (k0_pay6 x) w) (docRows i cu)

/-! ## The run -/

/-- The whole block's offset. -/
theorem offset_zero : (![0, 0] : Fin 2 → Nat) = fun _ => 0 := funext fun a => by fin_cases a <;> rfl

set_option maxRecDepth 16384 in
set_option maxHeartbeats 1000000 in
/-- AT THE FIRST POINT the body leaves the block's part. -/
theorem body_first (c : Dev nD) (i : grid0.Coords) (a2 : Memref sig .tc .vmem S2048x768 .f32) (h2 : a2.IsWhole)
    (a3 : Memref sig .tc .vmem S768x768 .bf16) (h3 : a3.IsWhole) (a4 : Memref sig .tc .vmem S16x768 .f32) (h4 : a4.IsWhole)
    (a5 : Memref sig .tc .vmem S2048x768 .bf16) (h5 : a5.IsWhole) (hc : k0_cond1 i = 1#1) (hc' : ¬k0_cond2 i = 1#1)
    (x : Vec F S2048x768 .f32) (w : Vec F S768x768 .bf16) (cu : CuBuf (F := F) c) (E : Set ℕ) (K : PUnit → sProp 𝕄) :
    iprop(owns (c : Thread nD τ) a2 fullShare x ∗ owns (c : Thread nD τ) a3 fullShare w ∗ (∃ d, owns (c : Thread nD τ) a4 fullShare d)
        ∗ (∃ d, owns (c : Thread nD τ) a5 fullShare d) ∗ cuHeld c cuRef cu
        ∗ (iprop(owns (c : Thread nD τ) a2 fullShare x ∗ owns (c : Thread nD τ) a3 fullShare w ∗ owns (c : Thread nD τ) a4 fullShare (part i x w cu)
            ∗ (∃ d, owns (c : Thread nD τ) a5 fullShare d) ∗ cuHeld c cuRef cu) -∗ K ⟨⟩))
      ⊢ wp frame (wpE (defs₀ (F := F)) Variants.none c none) E (cc0__fused_kernel i cuRef (Memref.isWhole_whole _) a2 h2 a3 h3 a4 h4 a5 h5) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f2, %e2, H2⟩, ⟨%f3, %e3, H3⟩, ⟨%d4, %f4, -, H4⟩, ⟨%d5, %f5, -, H5⟩, HT, Hk⟩
  obtain rfl := h2.eq_unread e2; obtain rfl := h3.eq_unread e3
  sl_exec (disch := first | sl_exact hc | sl_exact hc')
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    sl_unfold_words
    rw [View.read_writes_eq_canon _ _ _ (View.cover_of_tiled _ S16x768.size (by rfl)), View.canon_unit_zero offset_zero]
    rw [View.readCov_unit_zero (S := S2048x768) _ offset_zero]
    simp only [View.readAt_eq_ld, h2.read_unread, h3.read_unread, View.ld_unit_zero (S := S2048x768) offset_zero,
      View.ld_unit_zero (S := S768x768) offset_zero]
    rfl
  isplitl [H5]
  · iexists _, _; isplitr; swap; · iexact H5
    ipureintro; rfl
  iexact HT

set_option maxRecDepth 16384 in
set_option maxHeartbeats 1000000 in
/-- AT A LATER POINT the body leaves the block's part added to what the buffer held. -/
theorem body_later (c : Dev nD) (i : grid0.Coords) (a2 : Memref sig .tc .vmem S2048x768 .f32) (h2 : a2.IsWhole)
    (a3 : Memref sig .tc .vmem S768x768 .bf16) (h3 : a3.IsWhole) (a4 : Memref sig .tc .vmem S16x768 .f32) (h4 : a4.IsWhole)
    (a5 : Memref sig .tc .vmem S2048x768 .bf16) (h5 : a5.IsWhole) (hc : ¬k0_cond1 i = 1#1) (hc' : k0_cond2 i = 1#1)
    (x : Vec F S2048x768 .f32) (w : Vec F S768x768 .bf16) (o : Vec F S16x768 .f32) (cu : CuBuf (F := F) c) (E : Set ℕ) (K : PUnit → sProp 𝕄) :
    iprop(owns (c : Thread nD τ) a2 fullShare x ∗ owns (c : Thread nD τ) a3 fullShare w ∗ owns (c : Thread nD τ) a4 fullShare o
        ∗ (∃ d, owns (c : Thread nD τ) a5 fullShare d) ∗ cuHeld c cuRef cu
        ∗ (iprop(owns (c : Thread nD τ) a2 fullShare x ∗ owns (c : Thread nD τ) a3 fullShare w ∗ owns (c : Thread nD τ) a4 fullShare (addf o (part i x w cu))
            ∗ (∃ d, owns (c : Thread nD τ) a5 fullShare d) ∗ cuHeld c cuRef cu) -∗ K ⟨⟩))
      ⊢ wp frame (wpE (defs₀ (F := F)) Variants.none c none) E (cc0__fused_kernel i cuRef (Memref.isWhole_whole _) a2 h2 a3 h3 a4 h4 a5 h5) K := by
  simp only [cc0__fused_kernel_eq_skeleton]; unfold cc0__fused_kernel_skel
  simp only [k0_part1_eq_skeleton, k0_part2_eq_skeleton, k0_part3_eq_skeleton, k0_part4_eq_skeleton, k0_part5_eq_skeleton]
  unfold owns
  iintro ⟨⟨%f2, %e2, H2⟩, ⟨%f3, %e3, H3⟩, ⟨%f4, %e4, H4⟩, ⟨%d5, %f5, -, H5⟩, HT, Hk⟩
  obtain rfl := h2.eq_unread e2; obtain rfl := h3.eq_unread e3; obtain rfl := h4.eq_unread e4
  sl_exec (disch := first | sl_exact hc | sl_exact hc')
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; swap; · iexact H4
    ipureintro
    sl_unfold_words
    rw [View.read_writes_eq_canon _ _ _ (View.cover_of_tiled _ S16x768.size (by rfl)), View.canon_unit_zero offset_zero]
    rw [View.readCov_unit_zero (S := S2048x768) _ offset_zero]
    simp only [View.readAt_eq_ld, h2.read_unread, h3.read_unread, h4.read_unread, View.ld_unit_zero (S := S2048x768) offset_zero,
      View.ld_unit_zero (S := S768x768) offset_zero, View.ld_unit_zero (S := S16x768) offset_zero]
    unfold k0_pay5
    simp only [shapeCast_self]
    rfl
  isplitl [H5]
  · iexists _, _; isplitr; swap; · iexact H5
    ipureintro; rfl
  iexact HT

end Cert.KernelIdeal.Pool

end
-- ==== Proof.Pool.Frame.lean ====
/-
  The whole run of the pooled-means kernel: the means' staging buffer accumulates the blocks'
  parts, point after point; every run ends, leaves the arguments as they were and the semaphores
  at zero.
-/
module

public import proofs.«01_k».proof.Proof.Pool.Body
public import Idealize.ShloMosaic.Lib.Claim

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the means' buffer holds -/

/-- The block's part at point `t`, of the operands as the pipeline finds them. -/
def partAt (c : Dev nD) (t : Fin (pipe m).N) : FVec F S16x768 .f32 :=
  part (grid0.coords t) (block m c 0 t) (block m c 1 t) (bounds m 0)

/-- The means' buffer after point `n`: the parts of the blocks so far, added up in order. -/
def upTo (c : Dev nD) : (n : ℕ) → n < (pipe m).N → FVec F S16x768 .f32
  | 0, h => partAt m c ⟨0, h⟩
  | n + 1, h => addf (upTo c n (Nat.lt_of_succ_lt h)) (partAt m c ⟨n + 1, h⟩)

/-- The proof data of the pipeline: each input's buffer keeps its block, the means' buffer
    accumulates. -/
def data (_ : Fin 1) (c : Dev nD) : Dat τ (Elt F) Unit ℕ (UR sig nD τ) ℕ (pipe m) c where
  A w := start m c (Pipeline.arrRef spec0 w)
  after w t := match w with
    | ⟨0, _⟩ => block m c 0 t
    | ⟨1, _⟩ => block m c 1 t
    | ⟨2, _⟩ => upTo m c t.val t.isLt
  Φ _ := iprop(Pipeline.ΦA spec0 c ∗ Pipeline.ΦT pre0 (bounds m) c)
  q _ := fullShare
  owed _ := 0

theorem data_A (c : Dev nD) (w : Fin (pipe m).W) : (data m 0 c).A w = start m c (Pipeline.arrRef spec0 w) := by
  dsimp only [data]
theorem after_rows (c : Dev nD) (t : Fin (pipe m).N) : (data m 0 c).after 0 t = block m c 0 t := by dsimp only [data]; try rfl
theorem after_weights (c : Dev nD) (t : Fin (pipe m).N) : (data m 0 c).after 1 t = block m c 1 t := by dsimp only [data]; try rfl
theorem after_means (c : Dev nD) (t : Fin (pipe m).N) : (data m 0 c).after 2 t = upTo m c t.val t.isLt := by dsimp only [data]; try rfl

theorem before_0 (c : Dev nD) (t : Fin (pipe m).N) (d) : (data m 0 c).before 0 t d = block m c 0 t :=
  before_rows m (data m 0 c) (data_A m c 0) (after_rows m c) t d
theorem before_1 (c : Dev nD) (t : Fin (pipe m).N) (d) : (data m 0 c).before 1 t d = block m c 1 t :=
  before_weights m (data m 0 c) (data_A m c 1) (after_weights m c) t d

/-- The grid has eight points. -/
theorem points : (pipe m).N = 8 := N_0

/-- At a later point the means' buffer holds what the point before left. -/
theorem before_2 (c : Dev nD) (t : Fin (pipe m).N) (n : ℕ) (ht : t.val = n + 1) (d) :
    (data m 0 c).before 2 t d = upTo m c n (by have := t.isLt; omega) := by
  have hN := points m
  have hlt := t.isLt
  rw [(data m 0 c).before_out_kept 2 rfl t (by omega)
    (by rw [← Bool.not_eq_true, flush_means]; dsimp only; omega) means_live, after_means]
  · congr 1; dsimp only; omega
  all_goals exact fun _ _ => rfl

/-- What the means' buffer holds after a later point. -/
theorem upTo_later (c : Dev nD) (t : Fin (pipe m).N) (n : ℕ) (ht : t.val = n + 1) :
    upTo m c t.val t.isLt = addf (upTo m c n (by have := t.isLt; omega)) (partAt m c t) := by
  obtain ⟨v, hv⟩ := t
  dsimp only at ht; subst ht
  rfl

/-- And after the first. -/
theorem upTo_first (c : Dev nD) (t : Fin (pipe m).N) (ht : t.val = 0) : upTo m c t.val t.isLt = partAt m c t := by
  obtain ⟨v, hv⟩ := t
  dsimp only at ht; subst ht
  rfl

/-! ## The body's obligation -/

/-- What the body is called with at point `t`, -/
def given (c : Dev nD) (t : Fin (pipe m).N) : sProp 𝕄 :=
  iprop((data m 0 c).Φ t.castSucc ∗ (data m 0 c).owesAt () t.castSucc
    ∗ (∃ d, owns (c : Thread nD τ) (st0 m t) fullShare ((data m 0 c).before 0 t d))
    ∗ (∃ d, owns (c : Thread nD τ) (st1 m t) fullShare ((data m 0 c).before 1 t d))
    ∗ (∃ d, owns (c : Thread nD τ) (st2 m t) fullShare ((data m 0 c).before 2 t d)))

/-- and what it gives back. -/
def returned (c : Dev nD) (t : Fin (pipe m).N) : sProp 𝕄 :=
  iprop((data m 0 c).Φ t.succ ∗ (data m 0 c).owesAt () t.succ
    ∗ (data m 0 c).leavesExact 0 t ∗ (data m 0 c).leavesExact 1 t ∗ (data m 0 c).leavesExact 2 t)

/-- Every window is stored whole or left alone at every point, so what it is left at is `after`. -/
theorem leaves_0 (c : Dev nD) (t : Fin (pipe m).N) :
    (data m 0 c).leavesExact 0 t = owns (c : Thread nD τ) (st0 m t) fullShare (block m c 0 t) := by
  rw [← after_rows]; unfold Dat.leavesExact
  rw [show (pipe m).idle 0 ((pipe m).grid.coords t) = false from rfl]; rfl
theorem leaves_1 (c : Dev nD) (t : Fin (pipe m).N) :
    (data m 0 c).leavesExact 1 t = owns (c : Thread nD τ) (st1 m t) fullShare (block m c 1 t) := by
  rw [← after_weights]; unfold Dat.leavesExact
  rw [show (pipe m).idle 1 ((pipe m).grid.coords t) = false from rfl]; rfl
theorem leaves_2 (c : Dev nD) (t : Fin (pipe m).N) :
    (data m 0 c).leavesExact 2 t = owns (c : Thread nD τ) (st2 m t) fullShare (upTo m c t.val t.isLt) := by
  rw [← after_means]; unfold Dat.leavesExact
  rw [show (pipe m).idle 2 ((pipe m).grid.coords t) = false from means_live _]; rfl

set_option maxHeartbeats 800000 in
/-- The body does its part at every point: at the first it stores the block's part, later it adds it. -/
theorem body_sound (c : Dev nD) (t : Fin (pipe m).N) :
    given m c t ⊢ wp frame (wpE (defs₀ (F := F)) Variants.none c none) Set.univ (bodyAt m t) (fun _ => returned m c t) := by
  unfold given returned bodyAt
  simp only [before_0, before_1]
  rw [leaves_0 m c t, leaves_1 m c t, leaves_2 m c t]
  rw [show (data m 0 c).Φ t.succ = (data m 0 c).Φ t.castSucc from rfl,
    show (data m 0 c).owesAt () t.succ = (data m 0 c).owesAt () t.castSucc from rfl,
    show (data m 0 c).Φ t.castSucc = iprop(Pipeline.ΦA spec0 c ∗ Pipeline.ΦT pre0 (bounds m) c) from rfl, tables_eq, scratch_eq]
  rcases Nat.eq_zero_or_eq_succ_pred t.val with h0 | h1
  · rw [upTo_first m c t h0]
    iintro ⟨⟨⟨HS, Hg⟩, HT⟩, Ho, ⟨%d0, H0⟩, ⟨%d1, H1⟩, ⟨%d2, H2⟩⟩
    iapply (body_first c (grid0.coords t) _ _ _ _ _ _ _ _ ((first_iff t).mpr h0) (fun h => (later_iff t).mp h h0)
      (block m c 0 t) (block m c 1 t) (bounds m 0) Set.univ _)
    isplitl [H0]; · iexact H0
    isplitl [H1]; · iexact H1
    isplitl [H2]; · iexists _; iexact H2
    isplitl [HS]; · iexact HS
    isplitl [HT]; · iexact HT
    iintro ⟨H0, H1, H2, HS, HT⟩
    isplitl [HS Hg HT]
    · isplitl [HS Hg]
      · isplitl [HS]
        · iexact HS
        iexact Hg
      iexact HT
    isplitl [Ho]; · iexact Ho
    isplitl [H0]; · iexact H0
    isplitl [H1]; · iexact H1
    iexact H2
  · rw [upTo_later m c t _ h1]
    simp only [before_2 m c t _ h1]
    iintro ⟨⟨⟨HS, Hg⟩, HT⟩, Ho, ⟨%d0, H0⟩, ⟨%d1, H1⟩, ⟨%d2, H2⟩⟩
    iapply (body_later c (grid0.coords t) _ _ _ _ _ _ _ _ (fun h => by have := (first_iff t).mp h; omega)
      ((later_iff t).mpr (by omega)) (block m c 0 t) (block m c 1 t) (upTo m c (t.val.pred) _) (bounds m 0) Set.univ _)
    isplitl [H0]; · iexact H0
    isplitl [H1]; · iexact H1
    isplitl [H2]; · iexact H2
    isplitl [HS]; · iexact HS
    isplitl [HT]; · iexact HT
    iintro ⟨H0, H1, H2, HS, HT⟩
    isplitl [HS Hg HT]
    · isplitl [HS Hg]
      · isplitl [HS]
        · iexact HS
        iexact Hg
      iexact HT
    isplitl [Ho]; · iexact Ho
    isplitl [H0]; · iexact H0
    isplitl [H1]; · iexact H1
    iexact H2

/-- The obligation as the launch asks it. -/
theorem obligation (c : Dev nD) : BodyObligation (data (F := F) m 0 c) (defs₀ (F := F)) Variants.none () Set.univ := fun t => by
  rw [bigSep_W0, bigSep_W0, call_eq m]
  exact triple_restated (body_sound m c t) rfl .rfl fun _ => .rfl

/-! ## The run -/

set_option backward.isDefEq.respectTransparency.types false in
/-- Every run ends, with the arrays and the other buffers as the proof data say and every counter at zero. -/
theorem runs : θ_run defs (onTc (τ := τ) (main (F := F))) (s₀ m ρ)
    (fun r => Pipeline.FramePost (Pipeline.pin pcfgs fun _ => adm m) (data m) 0 (start m) r ∧ r.2.sem = fun _ => 0) :=
  Pipeline.θ_run_frameP (Q' := _) pcfgs (fun _ => adm m) (data m) (0 : Fin 1) launch0 defs₀ Variants.none m ρ main
    (hbody := fun c => (obligation m c).loose) (hshare := fun c => (data m 0 c).share_full fun _ => rfl)
    (howed := fun _ _ => rfl) (V := start m) (hmain := enters m Variants.none) (hA := data_A m) (hpf := start_bounds m)
    (hΦ := fun _ _ => rfl) (hQ' := fun _ h => h)

/-- The arguments end as they were. -/
theorem args_kept (c : Dev nD) {r : PUnit × MemSt nD τ sig (Elt F)}
    (h : Pipeline.FramePost (Pipeline.pin pcfgs fun _ => adm m) (data m) 0 (start m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(((h c).1 0).trans (((data m 0 c).arrAt_in 0 rfl _).trans (data_A m c 0))).trans (start_of_ne m c main_arg0 (by decide)),
    ((h c).2 main_arg1 (by decide : main_arg1 ∈ Pipeline.restRefs sig spec0)).trans (start_of_ne m c main_arg1 (by decide)),
    ((h c).2 main_arg2 (by decide : main_arg2 ∈ Pipeline.restRefs sig spec0)).trans (start_of_ne m c main_arg2 (by decide)),
    ((h c).2 main_arg3 (by decide : main_arg3 ∈ Pipeline.restRefs sig spec0)).trans (start_of_ne m c main_arg3 (by decide))⟩

/-- THE FRAME, for any meaning of the floats: every run ends, the arguments as they were and every
    semaphore at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_kept m c h.1, h.2⟩) (runs m ρ)

end Cert.KernelIdeal.Pool

end
-- ==== Proof.Pool.Same.lean ====
/-
  The printed kernel and its idealized form are the same text over two names, so what is proved of
  a run of the one, for any meaning of the floats, is proved of the other.
-/
module

public import proofs.«01_k».proof.Defs
public import proofs.«01_k».proof.Proof.Gen.Kernel
public import proofs.«01_k».proof.Proof.Pool.Frame

@[expose] public section

noncomputable section

namespace Cert.Same

open Idealize.ShloMosaic Idealize.SL.Sem

variable {F : FTy → Type} [FloatOps F]

/-- The kernels' own functions agree. -/
theorem rows_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | ⟨0, _⟩, (t, s) => rfl
  | ⟨n + 1, h⟩, _ => exact absurd h (Nat.not_lt.2 (Nat.le_add_left _ _))

/-- So do the functions a run may call. -/
theorem defs_eq : @Cert.Kernel.defs F _ Cert.Kernel.Gen.facts = @Cert.KernelIdeal.defs F _ Cert.KernelIdeal.Gen.facts := by
  unfold Cert.Kernel.defs Cert.KernelIdeal.defs
  exact congrArg (Pipeline.defs (@Cert.Kernel.pcfgs F _ Cert.Kernel.Gen.facts)) rows_eq

/-- The printed kernel's frame, over the machine's floats. -/
theorem kernel_framed : Cert.quiescent_Kernel (hKernel := Cert.Kernel.Gen.facts) := by
  intro m g _
  rw [defs_eq]
  exact Cert.KernelIdeal.Pool.framed (F := Bits) m g

/-- The idealized kernel's frame, over the extended reals. -/
theorem kernelIdeal_framed : Cert.quiescent_KernelIdeal (hKernelIdeal := Cert.KernelIdeal.Gen.facts) :=
  fun m g _ => Cert.KernelIdeal.Pool.framed (F := Ideal) m g

end Cert.Same

end
-- ==== Proof.Pool.Result.lean ====
/-
  What the result's array holds after a run: the sum of the eight blocks' parts, which the staging
  buffer has gathered by the last point and the pipeline then writes back whole.
-/
module

public import proofs.«01_k».proof.Proof.Pool.Frame
public import Idealize.ShloMosaic.Lib.Pipeline.ValueKit.Basic

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last point. -/
abbrev last : Fin (pipe m).N := ⟨7, by rw [points]; decide⟩

/-- All parts added up, as contents of the result's array. -/
abbrev total (c : Dev nD) : Buf (Elt F) ((c : Thread nD τ).loc main_v0) := upTo m c 7 (last m).isLt

/-- The means' window. -/
abbrev meansWin : Pipeline.Window sig grid0 := (pipe m).win 2

/-- The means' one block begins at the array's origin. -/
theorem means_origin (t : Fin (pipe m).N) (a : Fin 2) : (meansWin m).index t a = 0 := by
  match a with
  | ⟨0, _⟩ => rfl
  | ⟨1, _⟩ => rfl

/-- What the one write-back writes is the total. -/
theorem flushed_total (c : Dev nD) (t : Fin (pipe m).N) (hf : ((pipe m).win 2).flush t = true) :
    (data m 0 c).flushed 2 t = (((pipe m).win 2).blk t).view.read (Elt F) (total m c) := by
  have hN := points m
  have h7 : t.val % 8 = 7 := (flush_means m t).mp hf
  have hlt := t.isLt
  obtain rfl : t = last m := Fin.ext (by dsimp only; omega)
  show (meansWin m).cut (grid0.coords (last m)) ((data m 0 c).after 2 (last m)) = _
  rw [after_means]
  have hz : (fun a => (meansWin m).index (last m) a * main_v0.ty.shape.size a) = fun _ => 0 :=
    funext fun a => match a with
      | ⟨0, _⟩ => rfl
      | ⟨1, _⟩ => rfl
  exact (Memref.read_access_unit_zero (Elt F) main_v0 hz (fun a => by rw [congrFun hz a]; simp) (total m c)).symm

/-- The array ends holding the total. -/
theorem result_total (c : Dev nD) : (data m 0 c).arrAt 2 (pipe m).N = total m c :=
  (data m 0 c).arrAt_eq_of_cover 2 (total m c) (flushed_total m c) fun i =>
    ⟨last m, (flush_means m (last m)).mpr rfl, by
      refine (congrArg (i ∈ ·) (View.set_slice_whole main_v0 ((meansWin m).rect (last m)))).mpr
        ((Pipeline.Window.mem_rect_iff (meansWin m) (last m) i).mpr fun a => ?_)
      rw [means_origin m (last m) a]
      refine ⟨by omega, ?_⟩
      have := (i a).isLt
      match a with
      | ⟨0, _⟩ => exact this
      | ⟨1, _⟩ => exact this⟩

/-- A run ends with the total in the result and the arguments as they were. -/
theorem runs_total : θ_run defs (onTc (τ := τ) (main (F := F))) ⟨m, fun _ => 0, ρ⟩ fun r => ∀ c : Dev nD,
      r.2.mem ((c.tc : Thread nD τ).loc main_v0) = total m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 2).trans (result_total m c), args_kept m c h.1⟩) (runs m ρ)

end Cert.KernelIdeal.Pool

end
-- ==== Proof.Means.Algebra.lean ====
/-
  Facts about sums over the extended reals that a segment mean needs, and the one layout-free
  fact about tokens: a sum over all of them is the sum over the blocks of the sums in a block.
-/
module

public import Idealize.ShloMosaic.PureOps.Ideal
public import Idealize.ShloMosaic.PureOps.Ideal.Laws

@[expose] public section

noncomputable section

namespace Cert.Means

open Idealize.ShloMosaic
open scoped BigOperators

/-- A hyperbolic tangent is a real number, whatever its argument. -/
theorem tanh_real (x : EReal) : ∃ r : ℝ, Ideal.tanh x = (r : EReal) := by
  induction x using EReal.rec with
  | bot => exact ⟨-1, show (-1 : EReal) = ((-1 : ℝ) : EReal) by simp⟩
  | top => exact ⟨1, show (1 : EReal) = ((1 : ℝ) : EReal) by simp⟩
  | coe r => exact ⟨Real.tanh r, rfl⟩

/-- A finite sum of real numbers taken over the extended reals is their real sum. -/
theorem sum_real {ι : Type*} (S : Finset ι) (r : ι → ℝ) : ∑ i ∈ S, (r i : EReal) = ((∑ i ∈ S, r i : ℝ) : EReal) := by
  classical
  induction S using Finset.induction_on with
  | empty => simp
  | insert a S ha ih => rw [Finset.sum_insert ha, Finset.sum_insert ha, ih, EReal.coe_add]

/-- Weighting each member of a set by the reciprocal of `c`, and everything else by zero, gives the
    sum over the set divided by `c`. -/
theorem weighted_sum {ι : Type*} [Fintype ι] (p : ι → Prop) [DecidablePred p] (h : ι → EReal)
    (hh : ∀ i, ∃ r : ℝ, h i = (r : EReal)) (c : ℝ) (hc : c ≠ 0) :
    ∑ i, (if p i then Ideal.div 1 (c : EReal) else 0) * h i = Ideal.div (∑ i ∈ Finset.univ.filter p, h i) (c : EReal) := by
  choose r hr using hh
  simp only [hr]
  rw [Ideal.div_coe hc, Ideal.div_coe hc, one_mul, sum_real, ← EReal.coe_mul, Finset.sum_mul, ← sum_real, Finset.sum_filter]
  refine Finset.sum_congr rfl fun i _ => ?_
  by_cases hp : p i
  · rw [if_pos hp, if_pos hp, ← EReal.coe_mul, mul_comm]
  · rw [if_neg hp, if_neg hp, zero_mul]

/-- Token `r` of block `b`. -/
def token (b : Fin 8) (r : Fin 2048) : Fin 16384 := ⟨2048 * b.val + r.val, by have := b.isLt; have := r.isLt; omega⟩

/-- A sum over the tokens, block by block. -/
theorem sum_tokens {M : Type*} [AddCommMonoid M] (f : Fin 16384 → M) : ∑ t, f t = ∑ b : Fin 8, ∑ r : Fin 2048, f (token b r) := by
  rw [← Fintype.sum_prod_type', ← Equiv.sum_comp (finProdFinEquiv : Fin 8 × Fin 2048 ≃ Fin (8 * 2048))]
  refine Finset.sum_congr rfl fun x _ => congrArg f (Fin.ext ?_)
  show x.2.val + 2048 * x.1.val = 2048 * x.1.val + x.2.val
  exact Nat.add_comm _ _

/-- The pattern of one denotes one. -/
theorem one_f32 : Ideal.ofBits .f32 0x3F800000#32 = 1 := by
  simp [Ideal.ofBits, Ideal.ieee, -EReal.coe_mul]; norm_num

end Cert.Means

end
-- ==== Proof.Means.Segments.lean ====
/-
  Documents and tokens, by themselves: seventeen bounds that start at 0, never decrease and end at
  16384 put every token in exactly one of sixteen documents, the one whose number is the count of
  inner bounds at or below the token; and a document has as many tokens as its bounds are apart.
-/
module

public import proofs.«01_k».proof.Proof.Means.Algebra

@[expose] public section

namespace Cert.Means

/-- Bounds of sixteen documents over 16384 tokens. -/
structure Bounds (c : Fin 17 → ℤ) : Prop where
  first : c 0 = 0
  mono : ∀ s : Fin 16, c s.castSucc ≤ c s.succ
  last : c (Fin.last 16) = 16384

variable {c : Fin 17 → ℤ}

/-- Bounds further on are no lower. -/
theorem Bounds.monotone (h : Bounds c) : Monotone c := Fin.monotone_iff_le_succ.mpr h.mono

/-- No bound is negative. -/
theorem Bounds.nonneg (h : Bounds c) (k : Fin 17) : 0 ≤ c k := h.first ▸ h.monotone (Fin.zero_le k)

/-- None is beyond the tokens. -/
theorem Bounds.le (h : Bounds c) (k : Fin 17) : c k ≤ 16384 := h.last ▸ h.monotone (Fin.le_last k)

/-- A token lies in a document when it is at or after its first bound and before its second. -/
def Within (c : Fin 17 → ℤ) (s : Fin 16) (t : Fin 16384) : Prop := c s.castSucc ≤ t.val ∧ (t.val : ℤ) < c s.succ

instance (c : Fin 17 → ℤ) (s : Fin 16) : DecidablePred (Within c s) := fun t => by unfold Within; infer_instance

/-- The inner bound number `k`: the second one of document `k`. -/
def inner (k : Fin 15) : Fin 17 := ⟨k.val + 1, by have := k.isLt; omega⟩

/-- How many inner bounds lie at or below a token. -/
def docOf (c : Fin 17 → ℤ) (t : Fin 16384) : ℕ := (Finset.univ.filter fun k : Fin 15 => c (inner k) ≤ t.val).card

/-- In a document that count is the document's number. -/
theorem Bounds.docOf_within (h : Bounds c) (s : Fin 16) (t : Fin 16384) (hw : Within c s t) : docOf c t = s.val := by
  have hs := s.isLt
  have e : (Finset.univ.filter fun k : Fin 15 => c (inner k) ≤ t.val) = Finset.univ.filter fun k : Fin 15 => k.val < s.val := by
    refine Finset.filter_congr fun k _ => ⟨fun hk => ?_, fun hk => ?_⟩
    · by_contra hn
      have : c s.succ ≤ c (inner k) := h.monotone (Fin.le_def.mpr (by show s.val + 1 ≤ k.val + 1; omega))
      have := hw.2
      omega
    · have : c (inner k) ≤ c s.castSucc := h.monotone (Fin.le_def.mpr (by show k.val + 1 ≤ s.val; omega))
      exact this.trans hw.1
  unfold docOf
  rw [e]
  refine (Finset.card_nbij' (t := Finset.range s.val) (fun k => k.val) (fun n => if hn : n < 15 then ⟨n, hn⟩ else 0) ?_ ?_ ?_ ?_).trans (Finset.card_range _)
  · intro k hk; simpa using hk
  · intro n hn
    have hn' : n < s.val := by simpa using hn
    have h15 : n < 15 := by omega
    simp [h15, hn']
  · intro k _; simp
  · intro n hn
    have hn' : n < s.val := by simpa using hn
    have h15 : n < 15 := by omega
    simp [h15]

/-- Every token lies in some document. -/
theorem Bounds.exists_within (h : Bounds c) (t : Fin 16384) : ∃ s : Fin 16, Within c s t := by
  by_contra hno
  have hall : ∀ k : Fin 17, c k ≤ t.val := by
    intro k
    induction k using Fin.induction with
    | zero => rw [h.first]; exact Int.natCast_nonneg _
    | succ s ih =>
      by_contra hn
      exact hno ⟨s, ih, not_le.mp hn⟩
  have := hall (Fin.last 16)
  rw [h.last] at this
  have := t.isLt
  omega

/-- So the count names the document a token lies in, and no other. -/
theorem Bounds.docOf_eq_iff (h : Bounds c) (s : Fin 16) (t : Fin 16384) : docOf c t = s.val ↔ Within c s t := by
  refine ⟨fun e => ?_, h.docOf_within s t⟩
  obtain ⟨s', hs'⟩ := h.exists_within t
  have : s' = s := Fin.ext ((h.docOf_within s' t hs').symm.trans e)
  exact this ▸ hs'

/-- A document has as many tokens as its bounds are apart. -/
theorem Bounds.count (h : Bounds c) (s : Fin 16) :
    ((Finset.univ.filter (Within c s)).card : ℤ) = c s.succ - c s.castSucc := by
  have h0 := h.nonneg s.castSucc
  have h1 := h.le s.succ
  have h2 := h.mono s
  have e : (Finset.univ.filter (Within c s)).card = (Finset.Ico (c s.castSucc) (c s.succ)).card := by
    refine Finset.card_nbij (fun t : Fin 16384 => (t.val : ℤ)) ?_ ?_ ?_
    · intro t ht
      have : Within c s t := by simpa using ht
      simpa [Within] using this
    · intro t _ t' _ e
      exact Fin.ext (Int.ofNat.inj e)
    · intro z hz
      have hz' : c s.castSucc ≤ z ∧ z < c s.succ := by simpa using hz
      refine ⟨⟨z.toNat, by omega⟩, ?_, ?_⟩
      · have : ((z.toNat : ℕ) : ℤ) = z := Int.toNat_of_nonneg (by omega)
        simp only [Finset.coe_filter, Finset.mem_univ, true_and, Set.mem_setOf_eq]
        unfold Within
        dsimp only
        rw [this]; exact hz'
      · exact Int.toNat_of_nonneg (by omega)
  rw [e, Int.card_Ico, Int.toNat_of_nonneg (by omega)]

end Cert.Means
-- ==== Proof.Means.Documents.lean ====
/-
  What the precondition says of the arguments: the bounds start at 0, never decrease and end at
  16384, and the bias is zero.
-/
module

public import proofs.«01_k».proof.Pre_documents
public import proofs.«01_k».proof.Proof.Gen.Pre_documents
public import proofs.«01_k».proof.Proof.Means.Segments
public import Idealize.ShloMosaic.Lib.ReduceAll
public import Idealize.ShloMosaic.Lib.WordArith
public import Idealize.ShloMosaic.Lib.WordCmp
public import Idealize.ShloMosaic.Lib.Pipeline.Value
public import Idealize.ShloMosaic.Lib.ValueIdx

@[expose] public section

noncomputable section

namespace Cert.Pre_documents.Docs

open Idealize.ShloMosaic Cert.Pre_documents Cert.Pre_documents.Gen
open Idealize.ShloMosaic.ValueIdx

/-- A conjunction of two one-bit words is one when both are. -/
theorem both {a b : BitVec 1} (h : IntOp.andi a b = 1#1) : a = 1#1 ∧ b = 1#1 := by
  revert a b; decide

/-- A comparison for equality that is one says the words are equal. -/
theorem equal {a b : BitVec 32} (h : IntOp.cmpi .eq a b = 1#1) : a = b := by
  rw [WordCmp.cmpi_eq_eq, WordArith.ofBool_eq_one_iff, decide_eq_true_iff] at h
  exact h

/-- A slice of one element, made a scalar, is the element. -/
theorem one_of (x : S17.Idx → BitVec 32) (n : Fin 17) (h : S17.Slices ![n.val] S1) (hc : S1.ShapeCasts S_) (i : S_.Idx) :
    shapeCast S_ (extractStridedSlice S1 ![n.val] x h) hc i = x (ix1 n) := by
  refine congrArg x (funext fun a => Fin.ext ?_)
  match a with
  | ⟨0, _⟩ =>
    have hz : ∀ z : Fin 1, n.val + z.val = n.val := fun z => by omega
    exact hz _

/-- The precondition read: bounds of documents, and a bias of zeros. -/
theorem said (x0 : S16384x768.Idx → EReal) (x1 : S17.Idx → BitVec 32) (x2 : S768x768.Idx → EReal) (x3 : S768.Idx → EReal)
    (h : fn (F := Ideal) x0 x1 x2 x3 = fun _ => 1#1) :
    Means.Bounds (fun k => (x1 (ix1 k)).toInt) ∧ ∀ d : Fin 768, x3 (ix1 d) = 0 := by
  have h' := congrFun h (fun a => a.elim0)
  obtain ⟨h11, h14⟩ := both h'
  obtain ⟨h7, h10⟩ := both h11
  obtain ⟨h2, h6⟩ := both h7
  haveI : Subsingleton S_.Idx := ⟨fun _ _ => funext fun a => a.elim0⟩
  refine ⟨⟨?_, fun s => ?_, ?_⟩, fun d => ?_⟩
  · have e := (one_of x1 0 _ _ _).symm.trans (equal h2)
    show (x1 (ix1 0)).toInt = 0
    rw [e]; rfl
  · have e := Host.reduce_andi_all _ _ _ _ _ h6 (ix1 s)
    have e' : IntOp.cmpi .sle (x1 (ix1 s.castSucc)) (x1 (ix1 s.succ)) = 1#1 := by
      refine Eq.trans (congrArg₂ (IntOp.cmpi .sle) (congrArg x1 ?_) (congrArg x1 ?_)) e
      · refine funext fun a => Fin.ext ?_
        match a with
        | ⟨0, _⟩ => exact (Nat.zero_add s.val).symm
      · refine funext fun a => Fin.ext ?_
        match a with
        | ⟨0, _⟩ => exact Nat.add_comm s.val 1
    rw [WordCmp.cmpi_sle_eq, WordArith.ofBool_eq_one_iff, decide_eq_true_iff] at e'
    exact e'
  · have e := (one_of x1 16 _ _ _).symm.trans (equal h10)
    show (x1 (ix1 16)).toInt = 16384
    rw [e]; rfl
  · have e : Ideal.cmp .oeq (x3 (ix1 d)) (Ideal.ofBits .f32 0x00000000#32) = 1#1 := Host.reduce_andi_all _ _ _ _ _ h14 (ix1 d)
    rw [Ideal.ofBits_zero_f32] at e
    unfold Ideal.cmp at e
    rw [WordArith.ofBool_eq_one_iff, decide_eq_true_iff] at e
    exact e

end Cert.Pre_documents.Docs

end
-- ==== Proof.Pool.Block.lean ====
/-
  What one block adds to the means, over the extended reals: in document `s` and feature `d`, the
  sum over the block's tokens of the document's weight times the hyperbolic tangent of the token's
  hidden feature.
-/
module

public import proofs.«01_k».proof.Proof.Pool.Body
public import proofs.«01_k».proof.Proof.Means.Algebra
public import Idealize.ShloMosaic.Lib.MatmulPlain
public import Idealize.ShloMosaic.Lib.WordArith
public import Idealize.ShloMosaic.Lib.WordCmp

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

open Idealize.ShloMosaic.ValueIdx
open scoped BigOperators

/-! ## The documents' weights -/

/-- A token of the block has its number in the whole batch, `2048` tokens to a block. -/
theorem tokens_toInt (i : grid0.Coords) (r : Fin 2048) :
    (tokens i (ix2 (0 : Fin 1) r)).toInt = 2048 * ((i 0).val : ℤ) + (r.val : ℤ) := by
  have hi : (i 0).val < 8 := (i 0).isLt
  have hr := r.isLt
  have e : tokens i (ix2 (0 : Fin 1) r) = BitVec.ofNat 32 (2048 * (i 0).val + r.val) := by
    show BitVec.ofNat 32 (0 * 2048 + r.val) + BitVec.ofNat 32 (i 0).val * BitVec.ofNat 32 2048 = _
    rw [← BitVec.ofNat_mul, ← BitVec.ofNat_add]
    congr 1; omega
  rw [e, WordArith.toInt_ofNat_small _ (by omega)]
  push_cast; rfl

/-- The weight a token has in a document: the reciprocal of the document's length, at least one,
    inside the document and zero outside. -/
theorem docRow_apply (i : grid0.Coords) (lo hi : BitVec 32) (r : Fin 2048) :
    docRow (F := Ideal) i lo hi (ix2 (0 : Fin 1) r)
      = if lo.toInt ≤ 2048 * ((i 0).val : ℤ) + r.val ∧ 2048 * ((i 0).val : ℤ) + r.val < hi.toInt
        then Ideal.div 1 (max ((((hi - lo).toInt : ℝ)) : EReal) 1) else 0 := by
  have e : docRow (F := Ideal) i lo hi (ix2 (0 : Fin 1) r)
      = if IntOp.andi (IntOp.cmpi .sge (tokens i (ix2 (0 : Fin 1) r)) lo) (IntOp.cmpi .slt (tokens i (ix2 (0 : Fin 1) r)) hi) = 1#1
        then Ideal.div (Ideal.ofBits .f32 0x3F800000#32) (max ((((hi - lo).toInt : ℝ)) : EReal) (Ideal.ofBits .f32 0x3F800000#32))
        else Ideal.ofBits .f32 0x00000000#32 := rfl
  rw [e, Means.one_f32, Ideal.ofBits_zero_f32, WordCmp.cmpi_sge_eq, WordCmp.cmpi_slt_eq, WordArith.andi_ofBool, tokens_toInt]
  refine if_congr ?_ rfl rfl
  rw [WordArith.ofBool_eq_one_iff, Bool.and_eq_true, decide_eq_true_iff, decide_eq_true_iff]

/-- The documents' rows at document `s`: its own row. -/
theorem docRows_apply (i : grid0.Coords) (cu : S17.Idx → BitVec 32) (s : Fin 16) (r : Fin 2048) :
    docRows (F := Ideal) i cu (ix2 s r) = docRow (F := Ideal) i (bound cu s.val) (bound cu (s.val + 1)) (ix2 (0 : Fin 1) r) := by
  unfold docRows
  exact concatenate_ofFn_unit_apply (t := S16x2048) (s₁ := S1x2048) 0
    (fun s : Fin 16 => docRow (F := Ideal) i (bound cu s.val) (bound cu (s.val + 1))) _ rfl rfl (ix2 s r) s rfl (ix2 (0 : Fin 1) r)
    (fun b hb => by
      match b with
      | ⟨0, _⟩ => exact absurd rfl hb
      | ⟨1, _⟩ => rfl)

/-! ## The block's part -/

/-- A token's hidden feature after the hyperbolic tangent. -/
theorem hidden_apply (x : Vec Ideal S2048x768 .f32) (w : Vec Ideal S768x768 .bf16) (r : Fin 2048) (d : Fin 768) :
    k0_pay7 (F := Ideal) (k0_pay6 x) w (ix2 r d) = Ideal.tanh (∑ k : Fin 768, x (ix2 r k) * w (ix2 k d)) := by
  unfold k0_pay7 k0_pay6
  simp only [shapeCast_self]
  refine congrArg Ideal.tanh ?_
  refine (Ideal.matmul_plain_apply (M := 2048) (K := 768) (N := 768) none _ _ _ r d).trans ?_
  refine (congrArg (· + _) Ideal.ofBits_zero_f32).trans ?_
  rw [zero_add]
  rfl

/-- The part at document `s` and feature `d`. -/
theorem part_apply (i : grid0.Coords) (x : Vec Ideal S2048x768 .f32) (w : Vec Ideal S768x768 .bf16) (cu : S17.Idx → BitVec 32)
    (s : Fin 16) (d : Fin 768) :
    part (F := Ideal) i x w cu (ix2 s d)
      = ∑ r : Fin 2048, docRow (F := Ideal) i (bound cu s.val) (bound cu (s.val + 1)) (ix2 (0 : Fin 1) r)
          * Ideal.tanh (∑ k : Fin 768, x (ix2 r k) * w (ix2 k d)) := by
  unfold part k0_pay4
  refine (Ideal.matmul_plain_apply (M := 16) (K := 2048) (N := 768) none _ _ _ s d).trans ?_
  refine (congrArg (· + _) Ideal.ofBits_zero_f32).trans ?_
  rw [zero_add]
  refine Finset.sum_congr rfl fun r _ => ?_
  refine congrArg₂ (· * ·) ?_ (hidden_apply x w r d)
  exact docRows_apply i cu s r

end Cert.KernelIdeal.Pool

end
-- ==== Proof.Pool.Value.lean ====
/-
  The kernel's result over the extended reals as one sum over all tokens: in document `s` and
  feature `d`, each token's document weight times its hidden feature after the hyperbolic tangent.
-/
module

public import proofs.«01_k».proof.Proof.Pool.Result
public import proofs.«01_k».proof.Proof.Pool.Block

@[expose] public section

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

open Idealize.ShloMosaic.ValueIdx
open scoped BigOperators

variable (m : (ℓ : Loc nD τ sig) → Buf (Elt Ideal) ℓ)

/-! ## The four arguments as arrays -/

/-- The tokens' rows. -/
abbrev rows (c : Dev nD) : S16384x768.Idx → EReal := m ((c.tc : Thread nD τ).loc main_arg0)
/-- The document bounds. -/
abbrev cuOf (c : Dev nD) : S17.Idx → BitVec 32 := m ((c.tc : Thread nD τ).loc main_arg1)
/-- The weights. -/
abbrev weights (c : Dev nD) : S768x768.Idx → EReal := m ((c.tc : Thread nD τ).loc main_arg2)

/-- A token's hidden feature after the hyperbolic tangent. -/
def hidden (c : Dev nD) (t : Fin 16384) (d : Fin 768) : EReal :=
  Ideal.tanh (∑ k : Fin 768, rows m c (ix2 t k) * weights m c (ix2 k d))

/-- Where document bound `k` lies among the tokens. -/
def cut (c : Dev nD) (k : Fin 17) : ℤ := (cuOf m c (ix1 k)).toInt

/-! ## The blocks are parts of the arguments -/

/-- The grid's one coordinate is the point's number. -/
theorem coord_val : ∀ t : Fin grid0.N, (grid0.coords t 0).val = t.val := by decide +kernel

/-- Rounding changes no extended real: the rounded weights are the weights. -/
theorem rounded (c : Dev nD) : start m c main_call0_v0 = weights m c := by
  unfold start hostOps0
  after_results_simp <;> rfl

/-- The tokens' block at a point, -/
def rowsBlock (c : Dev nD) (t : Fin (pipe m).N) : Vec Ideal S2048x768 .f32 := block m c 0 t
/-- the weights' block, -/
def weightsBlock (c : Dev nD) (t : Fin (pipe m).N) : Vec Ideal S768x768 .bf16 := block m c 1 t
/-- and the bounds as the body reads them. -/
def fetched : S17.Idx → BitVec 32 := bounds m 0

/-- Row `r` of the block at point `t` is token `2048 * t + r`'s. -/
theorem rows_block (c : Dev nD) (t : Fin (pipe m).N) (b : Fin 8) (hb : t.val = b.val) (r : Fin 2048) (k : Fin 768) :
    rowsBlock m c t (ix2 r k) = rows m c (ix2 (Means.token b r) k) := by
  refine (congrFun (start_of_ne m c main_arg0 (by decide)) _).trans ?_
  refine congrArg (rows m c) (funext fun a => Fin.ext ?_)
  match a with
  | ⟨0, _⟩ =>
    show (BitVec.ofNat 32 (grid0.coords t 0).val).toNat * 2048 + 1 * r.val = 2048 * b.val + r.val
    have := b.isLt
    rw [coord_val t, hb, BitVec.toNat_ofNat]
    omega
  | ⟨1, _⟩ => show 0 * 768 + 1 * k.val = k.val; omega

/-- The weights' block is the weights. -/
theorem weights_block (c : Dev nD) (t : Fin (pipe m).N) (k d : Fin 768) :
    weightsBlock m c t (ix2 k d) = weights m c (ix2 k d) := by
  refine (congrFun (rounded m c) _).trans ?_
  refine congrArg (weights m c) (funext fun a => Fin.ext ?_)
  match a with
  | ⟨0, _⟩ => show 0 * 768 + 1 * k.val = k.val; omega
  | ⟨1, _⟩ => show 0 * 768 + 1 * d.val = d.val; omega

/-- The prefetched bounds are the argument's. -/
theorem bounds_apply (c : Dev nD) (k : ℕ) (h : k < 17) : bound (fetched m) k = cuOf m c (ix1 ⟨k, h⟩) := by
  rw [bound_eq _ k h]
  obtain rfl : c = 0 := Subsingleton.elim _ _
  exact congrFun (start_of_ne m 0 main_arg1 (by decide)) _

/-! ## The result -/

/-- A token's weight in document `s`: the reciprocal of the document's length, at least one, inside
    the document and zero outside. -/
def weight (c : Dev nD) (s : Fin 16) (t : Fin 16384) : EReal :=
  if cut m c s.castSucc ≤ t.val ∧ (t.val : ℤ) < cut m c s.succ
  then Ideal.div 1 (max ((((cuOf m c (ix1 s.succ) - cuOf m c (ix1 s.castSucc)).toInt : ℝ)) : EReal) 1) else 0

/-- What block `b` adds to document `s`, feature `d`. -/
theorem partAt_apply (c : Dev nD) (t : Fin (pipe m).N) (b : Fin 8) (hb : t.val = b.val) (s : Fin 16) (d : Fin 768) :
    partAt m c t (ix2 s d) = ∑ r : Fin 2048, weight m c s (Means.token b r) * hidden m c (Means.token b r) d := by
  refine (part_apply (grid0.coords t) (rowsBlock m c t) (weightsBlock m c t) (fetched m) s d).trans ?_
  refine Finset.sum_congr rfl fun r _ => ?_
  rw [docRow_apply, bounds_apply m c s.val (by have := s.isLt; omega), bounds_apply m c (s.val + 1) (by have := s.isLt; omega)]
  refine congrArg₂ (· * ·) ?_ ?_
  · unfold weight cut Means.token
    rw [coord_val t, hb]
    push_cast
    rfl
  · unfold hidden
    exact congrArg Ideal.tanh (Finset.sum_congr rfl fun k _ => by rw [rows_block m c t b hb, weights_block])

/-- The sums gathered by point `n` are the first `n + 1` blocks'. -/
theorem upTo_apply (c : Dev nD) (s : Fin 16) (d : Fin 768) (g : ℕ → EReal)
    (hg : ∀ t : Fin (pipe m).N, partAt m c t (ix2 s d) = g t.val) :
    ∀ (n : ℕ) (h : n < (pipe m).N), upTo m c n h (ix2 s d) = ∑ b ∈ Finset.range (n + 1), g b
  | 0, h => by rw [Finset.sum_range_one]; exact hg ⟨0, h⟩
  | n + 1, h => by
    rw [Finset.sum_range_succ, ← upTo_apply c s d g hg n (Nat.lt_of_succ_lt h)]
    exact congrArg (upTo m c n (Nat.lt_of_succ_lt h) (ix2 s d) + ·) (hg ⟨n + 1, h⟩)

/-- THE RESULT at document `s` and feature `d`. -/
theorem total_apply (c : Dev nD) (s : Fin 16) (d : Fin 768) :
    total m c (ix2 s d) = ∑ t : Fin 16384, weight m c s t * hidden m c t d := by
  have hN := points m
  refine (upTo_apply m c s d (fun b => if h : b < 8 then
    ∑ r : Fin 2048, weight m c s (Means.token ⟨b, h⟩ r) * hidden m c (Means.token ⟨b, h⟩ r) d else 0) (fun t => ?_) 7 _).trans ?_
  · have ht : t.val < 8 := by have := t.isLt; omega
    rw [dif_pos ht, partAt_apply m c t ⟨t.val, ht⟩ rfl]
  · rw [Finset.sum_range, Means.sum_tokens]
    exact Finset.sum_congr rfl fun b _ => dif_pos b.isLt

end Cert.KernelIdeal.Pool

end
-- ==== Proof.Reference.Scatter.lean ====
/-
  The two accumulating scatters of the reference: rows of hidden features, and ones, each added at
  the document its token names. Read at an element, either is the operand's element plus the sum of
  what the tokens naming that document bring.
-/
module

public import proofs.«01_k».proof.Proof.Gen.ReferenceIdeal.Read
public import Idealize.ShloMosaic.Lib.Routing.OpsPair

@[expose] public section

noncomputable section

namespace Cert.ReferenceIdeal.Docs

open Idealize.ShloMosaic Cert.ReferenceIdeal Cert.ReferenceIdeal.Gen
open Idealize.ShloMosaic.ValueIdx
open scoped BigOperators

/-- Row `t`, feature `e` lands in document `s`, feature `d`, when `t` names `s` and the features are one. -/
theorem row_lands (idx : IVec S16384x1 32) (t : Fin 16384) (e : Fin 768) (s : Fin 16) (d : Fin 768) :
    scatter_S16x768_S16384x1_S16384x768_1_0_0_1.resultIdx? (ix2 t e) idx = some (ix2 s d)
      ↔ (idx (ix2 t (0 : Fin 1))).toInt = s.val ∧ e = d := by
  have h0 : scatter_S16x768_S16384x1_S16384x768_1_0_0_1.start (ix2 t e) idx 0 = (idx (ix2 t (0 : Fin 1))).toInt := by
    refine congrArg (fun i => (idx i).toInt) (funext fun a => ?_)
    match a with
    | ⟨0, _⟩ => rfl
    | ⟨1, _⟩ => rfl
  have h1 : scatter_S16x768_S16384x1_S16384x768_1_0_0_1.start (ix2 t e) idx 1 = 0 := rfl
  have w0 : scatter_S16x768_S16384x1_S16384x768_1_0_0_1.window (ix2 t e) 0 = 0 := rfl
  have w1 : scatter_S16x768_S16384x1_S16384x768_1_0_0_1.window (ix2 t e) 1 = e.val := rfl
  refine (Routing.resultIdx?_ix2 (R := 16) (C := 768) _ _ idx s d).trans ?_
  refine ⟨fun h => ⟨?_, Fin.ext ?_⟩, fun h => ⟨?_, ?_⟩⟩
  · have := h.1; rw [h0, w0] at this; simpa using this
  · have := h.2; rw [h1, w1] at this; simpa using this
  · rw [h0, w0, h.1]; simp
  · rw [h1, w1, h.2]; simp

/-- A one lands in document `s` when its token names `s`. -/
theorem one_lands (idx : IVec S16384x1 32) (t : Fin 16384) (s : Fin 16) :
    scatter_S16_S16384x1_S16384_n_0_0_1.resultIdx? (ix1 t) idx = some (ix1 s)
      ↔ (idx (ix2 t (0 : Fin 1))).toInt = s.val := by
  have h0 : scatter_S16_S16384x1_S16384_n_0_0_1.start (ix1 t) idx 0 = (idx (ix2 t (0 : Fin 1))).toInt := by
    refine congrArg (fun i => (idx i).toInt) (funext fun a => ?_)
    match a with
    | ⟨0, _⟩ => rfl
    | ⟨1, _⟩ => rfl
  have w0 : scatter_S16_S16384x1_S16384_n_0_0_1.window (ix1 t) 0 = 0 := rfl
  refine (Routing.resultIdx?_ix1 (N := 16) _ _ idx s).trans ?_
  rw [h0, w0]; simp

/-- The scatter of rows at document `s`, feature `d`. -/
theorem rows_added (v : FVec Ideal S16x768 .f32) (idx : IVec S16384x1 32) (u : FVec Ideal S16384x768 .f32)
    (s : Fin 16) (d : Fin 768) :
    Host.scatterAdd scatter_S16x768_S16384x1_S16384x768_1_0_0_1 v idx u (ix2 s d)
      = v (ix2 s d) + ∑ t ∈ Finset.univ.filter (fun t : Fin 16384 => (idx (ix2 t (0 : Fin 1))).toInt = s.val), u (ix2 t d) := by
  show v (ix2 s d) + ∑ j ∈ Finset.univ.filter (fun j => _ = some (ix2 s d)), u j = _
  refine congrArg (v (ix2 s d) + ·) (Eq.symm (Finset.sum_nbij (fun t : Fin 16384 => ix2 t d) ?_ ?_ ?_ fun _ _ => rfl))
  · intro t ht
    have ht' : (idx (ix2 t (0 : Fin 1))).toInt = s.val := by simpa using ht
    exact Finset.mem_filter.mpr ⟨Finset.mem_univ _, (row_lands idx t d s d).mpr ⟨ht', rfl⟩⟩
  · intro t _ t' _ e
    exact congrFun e 0
  · intro j hj
    have hj' := (Finset.mem_filter.mp (Finset.mem_coe.mp hj)).2
    rw [eq_ix2 j] at hj'
    have hl := (row_lands idx (j 0) (j 1) s d).mp hj'
    refine ⟨j 0, ?_, ?_⟩
    · exact Finset.mem_coe.mpr (Finset.mem_filter.mpr ⟨Finset.mem_univ _, hl.1⟩)
    · exact (congrArg (ix2 (j 0)) hl.2.symm).trans (eq_ix2 j).symm

/-- The scatter of ones, of anything a token brings, at document `s`. -/
theorem ones_added (v : FVec Ideal S16 .f32) (idx : IVec S16384x1 32) (u : FVec Ideal S16384 .f32) (s : Fin 16) :
    Host.scatterAdd scatter_S16_S16384x1_S16384_n_0_0_1 v idx u (ix1 s)
      = v (ix1 s) + ∑ t ∈ Finset.univ.filter (fun t : Fin 16384 => (idx (ix2 t (0 : Fin 1))).toInt = s.val), u (ix1 t) := by
  show v (ix1 s) + ∑ j ∈ Finset.univ.filter (fun j => _ = some (ix1 s)), u j = _
  refine congrArg (v (ix1 s) + ·) (Eq.symm (Finset.sum_nbij (fun t : Fin 16384 => ix1 t) ?_ ?_ ?_ fun _ _ => rfl))
  · intro t ht
    have ht' : (idx (ix2 t (0 : Fin 1))).toInt = s.val := by simpa using ht
    exact Finset.mem_filter.mpr ⟨Finset.mem_univ _, (one_lands idx t s).mpr ht'⟩
  · intro t _ t' _ e
    exact congrFun e 0
  · intro j hj
    have hj' := (Finset.mem_filter.mp (Finset.mem_coe.mp hj)).2
    rw [eq_ix1 j] at hj'
    refine ⟨j 0, ?_, (eq_ix1 j).symm⟩
    exact Finset.mem_coe.mpr (Finset.mem_filter.mpr ⟨Finset.mem_univ _, (one_lands idx (j 0) s).mp hj'⟩)

end Cert.ReferenceIdeal.Docs

end
-- ==== Proof.Reference.Value.lean ====
/-
  The reference read at one document and feature: the sum of its tokens' hidden features over the
  larger of their number and one, a token's document being the count of inner bounds at or below it.
-/
module

public import proofs.«01_k».proof.Proof.Reference.Scatter
public import proofs.«01_k».proof.Proof.Means.Segments
public import Idealize.ShloMosaic.Lib.IndicatorCount
public import Idealize.ShloMosaic.Lib.WordArith
public import Idealize.ShloMosaic.Lib.WordCmp

@[expose] public section

noncomputable section

namespace Cert.ReferenceIdeal.Docs

open Idealize.ShloMosaic Cert.ReferenceIdeal Cert.ReferenceIdeal.Gen Cert.ReferenceIdeal.Read
open Idealize.ShloMosaic.ValueIdx
open scoped BigOperators

variable (x0 : S16384x768.Idx → EReal) (x1 : S17.Idx → BitVec 32) (x2 : S768x768.Idx → EReal) (x3 : S768.Idx → EReal)

/-- The bounds as integers. -/
def cuts (k : Fin 17) : ℤ := (x1 (ix1 k)).toInt

/-- The comparison of token `t` with inner bound `k` is one when the bound is at or below the token. -/
theorem below_iff (t : Fin 16384) (k : Fin 15) :
    val_main_v11 (F := Ideal) x1 (ix2 t k) = 1#1 ↔ cuts x1 (Means.inner k) ≤ t.val := by
  have e1 : val_main_v9 (F := Ideal) x1 (ix2 t k) = x1 (ix1 (Means.inner k)) := by
    rw [val_main_v9_apply, val_main_v6_apply, val_main_v5_apply]
    refine congrArg x1 (funext fun a => Fin.ext ?_)
    match a with
    | ⟨0, _⟩ => exact Nat.add_comm 1 k.val
  have e2 : val_main_v10 (F := Ideal) (ix2 t k) = BitVec.ofNat 32 t.val := by
    rw [val_main_v10_apply, val_main_v8_apply, val_main_v7_apply]
  rw [val_main_v11_apply, e1, e2, WordCmp.cmpi_sle_eq, WordArith.ofBool_eq_one_iff, decide_eq_true_iff,
    WordArith.toInt_ofNat_small _ (by have := t.isLt; omega)]
  rfl

/-- Token `t` names the document whose number is the count of inner bounds at or below it. -/
theorem named (t : Fin 16384) : (val_main_v13 (F := Ideal) x1 (ix1 t)).toInt = Means.docOf (cuts x1) t := by
  have hc : (Finset.filter (fun i => val_main_v11 (F := Ideal) x1 i = 1#1)
      (Finset.univ.filter fun i : S16384x15.Idx => reducesTo_S16384x15_S16384_d1.drop i = ix1 t)).card
        = Means.docOf (cuts x1) t := by
    refine Eq.symm (Finset.card_nbij (fun k : Fin 15 => ix2 t k) ?_ ?_ ?_)
    · intro k hk
      have hk' := (Finset.mem_filter.mp hk).2
      refine Finset.mem_filter.mpr ⟨Finset.mem_filter.mpr ⟨Finset.mem_univ _, ?_⟩, (below_iff x1 t k).mpr hk'⟩
      refine funext fun a => Fin.ext ?_
      match a with
      | ⟨0, _⟩ => exact Shape.ReducesTo.drop_apply_val_of_eq reducesTo_S16384x15_S16384_d1 (ix2 t k) 0 0
    · intro k _ k' _ e
      exact congrFun e 1
    · intro i hi
      obtain ⟨hd, hb⟩ := Finset.mem_filter.mp (Finset.mem_coe.mp hi)
      have hd' := (Finset.mem_filter.mp hd).2
      have h0 : i 0 = t := Fin.ext ((Shape.ReducesTo.drop_apply_val_of_eq reducesTo_S16384x15_S16384_d1 i 0 0).symm.trans
        (congrArg Fin.val (congrFun hd' 0)))
      have hi' : i = ix2 t (i 1) := (eq_ix2 i).trans (congrArg (ix2 · (i 1)) h0)
      rw [hi'] at hb
      exact ⟨i 1, Finset.mem_coe.mpr (Finset.mem_filter.mpr ⟨Finset.mem_univ _, (below_iff x1 t (i 1)).mp hb⟩), hi'.symm⟩
  have hlt : Means.docOf (cuts x1) t < 2 ^ 31 := by
    have : Means.docOf (cuts x1) t ≤ 15 := (Finset.card_filter_le _ _).trans (by simp)
    omega
  unfold val_main_v13
  rw [Host.reduce_eq_fold]
  refine (congrArg BitVec.toInt (IndicatorCount.fold_addi_setWidth_eq_card (w := 32) (val_main_v11 (F := Ideal) x1)
    (Finset.univ.filter fun i : S16384x15.Idx => reducesTo_S16384x15_S16384_d1.drop i = ix1 t))).trans ?_
  rw [hc]
  exact WordArith.toInt_ofNat_small _ hlt

/-- A token's hidden feature after the bias and the hyperbolic tangent. -/
def hidden (t : Fin 16384) (d : Fin 768) : EReal :=
  Ideal.tanh ((∑ k : Fin 768, x0 (ix2 t k) * x2 (ix2 k d)) + x3 (ix1 d))

/-- It is the reference's. -/
theorem hidden_eq (t : Fin 16384) (d : Fin 768) : val_main_v4 (F := Ideal) x0 x2 x3 (ix2 t d) = hidden x0 x2 x3 t d := by
  rw [val_main_v4_apply, val_main_v3_apply, val_main_v0_apply, val_main_v2_apply, val_main_v1_apply]
  refine congrArg Ideal.tanh (congrArg₂ (· + ·) (Finset.sum_congr rfl fun k _ => congrArg₂ (· * ·) (congrArg x0 ?_) (congrArg x2 ?_)) (congrArg x3 ?_))
  · refine funext fun a => Fin.ext ?_
    match a with
    | ⟨0, _⟩ => rfl
    | ⟨1, _⟩ => rfl
  · refine funext fun a => Fin.ext ?_
    match a with
    | ⟨0, _⟩ => rfl
    | ⟨1, _⟩ => rfl
  · refine funext fun a => Fin.ext ?_
    match a with
    | ⟨0, _⟩ => rfl

/-- The tokens that name document `s`. -/
def tokensOf (s : Fin 16) : Finset (Fin 16384) := Finset.univ.filter fun t => Means.docOf (cuts x1) t = s.val

/-- The word a token names its document by, set beside the number. -/
theorem tokens_eq (s : Fin 16) :
    (Finset.univ.filter fun t : Fin 16384 => (val_main_v15 (F := Ideal) x1 (ix2 t (0 : Fin 1))).toInt = s.val) = tokensOf x1 s := by
  refine Finset.filter_congr fun t _ => ?_
  have e : val_main_v15 (F := Ideal) x1 (ix2 t (0 : Fin 1)) = val_main_v13 (F := Ideal) x1 (ix1 t) := by
    rw [val_main_v15_apply]
    refine congrArg (val_main_v13 (F := Ideal) x1) (funext fun a => Fin.ext ?_)
    match a with
    | ⟨0, _⟩ => rfl
  rw [e, named]
  exact Int.ofNat_inj

/-- The sums: document `s`'s hidden features added up. -/
theorem sums_apply (s : Fin 16) (d : Fin 768) :
    val_main_v16 (F := Ideal) x0 x1 x2 x3 (ix2 s d) = ∑ t ∈ tokensOf x1 s, hidden x0 x2 x3 t d := by
  unfold val_main_v16
  rw [rows_added, tokens_eq, val_main_v14_apply, val_main_cst_apply]
  refine (congrArg₂ (· + ·) Ideal.ofBits_zero_f32 (Finset.sum_congr rfl fun t _ => hidden_eq x0 x2 x3 t d)).trans (zero_add _)

/-- The counts: how many tokens name document `s`. -/
theorem counts_apply (s : Fin 16) : val_main_v20 (F := Ideal) x1 (ix1 s) = (((tokensOf x1 s).card : ℝ) : EReal) := by
  unfold val_main_v20
  rw [show val_main_v19 (F := Ideal) x1 = val_main_v15 (F := Ideal) x1 from rfl, ones_added, tokens_eq, val_main_v18_apply, val_main_cst_1_apply]
  refine (congrArg₂ (· + ·) Ideal.ofBits_zero_f32 (Finset.sum_congr rfl fun t _ =>
    ((val_main_v17_apply (F := Ideal) (ix1 t)).trans Means.one_f32 : _ = ((1 : ℝ) : EReal)))).trans ?_
  rw [Means.sum_real, Finset.sum_const, nsmul_eq_mul, mul_one, zero_add]

/-- The reference at document `s`, feature `d`: the sum over the larger of the count and one. -/
theorem result_apply (s : Fin 16) (d : Fin 768) :
    val_main_v25 (F := Ideal) x0 x1 x2 x3 (ix2 s d)
      = Ideal.div (∑ t ∈ tokensOf x1 s, hidden x0 x2 x3 t d) (max (((tokensOf x1 s).card : ℝ) : EReal) 1) := by
  rw [val_main_v25_apply, val_main_v24_apply, val_main_v23_apply, val_main_v22_apply]
  refine congrArg₂ Ideal.div (sums_apply x0 x1 x2 x3 s d) (congrArg₂ max ?_ Means.one_f32)
  refine (congrArg (val_main_v20 (F := Ideal) x1) (funext fun a => Fin.ext ?_)).trans (counts_apply x1 s)
  match a with
  | ⟨0, _⟩ => rfl

end Cert.ReferenceIdeal.Docs

end
-- ==== Proof.Means.Equation.lean ====
/-
  The equation: where the bounds are those of documents and the bias is zero, the kernel's sum of
  weighted hidden features is the reference's sum of hidden features over their number.
-/
module

public import proofs.«01_k».proof.Proof.Pool.Value
public import proofs.«01_k».proof.Proof.Reference.Value

@[expose] public section

noncomputable section

namespace Cert.Means

open Idealize.ShloMosaic Idealize.ShloMosaic.TcCoe
open Idealize.ShloMosaic.ValueIdx
open Cert.KernelIdeal
open scoped BigOperators

variable (m : (ℓ : Loc nD τ sig) → Buf (Elt Ideal) ℓ) (c : Dev nD)

/-- The larger of a real number and one, among the extended reals, is that among the reals. -/
theorem max_one (r : ℝ) : max (r : EReal) 1 = ((max r 1 : ℝ) : EReal) :=
  (EReal.coe_strictMono.monotone.map_max (a := r) (b := 1)).symm

/-- The bounds' difference as a word is their difference. -/
theorem gap (h : Bounds (Pool.cut m c)) (s : Fin 16) :
    (Pool.cuOf m c (ix1 s.succ) - Pool.cuOf m c (ix1 s.castSucc)).toInt = Pool.cut m c s.succ - Pool.cut m c s.castSucc :=
  WordArith.toInt_subi_of_nonneg _ _ (h.nonneg s.succ) (h.nonneg s.castSucc)

/-- The tokens naming a document are those within its bounds. -/
theorem tokens_within (h : Bounds (Pool.cut m c)) (s : Fin 16) :
    ReferenceIdeal.Docs.tokensOf (Pool.cuOf m c) s = Finset.univ.filter (Within (Pool.cut m c) s) :=
  Finset.filter_congr fun t _ => h.docOf_eq_iff s t

/-- A bias of zeros leaves a hidden feature what it is without one. -/
theorem unbiased (b : S768.Idx → EReal) (hb : ∀ d : Fin 768, b (ix1 d) = 0) (t : Fin 16384) (d : Fin 768) :
    ReferenceIdeal.Docs.hidden (Pool.rows m c) (Pool.weights m c) b t d = Pool.hidden m c t d := by
  unfold ReferenceIdeal.Docs.hidden
  rw [hb, add_zero]
  rfl

/-- What a document's sum is divided by: its bounds' difference, or one where that is more. -/
def size (s : Fin 16) : ℝ := max ((Pool.cuOf m c (ix1 s.succ) - Pool.cuOf m c (ix1 s.castSucc)).toInt : ℝ) 1

theorem size_ne (s : Fin 16) : size m c s ≠ 0 :=
  ne_of_gt (lt_of_lt_of_le one_pos (le_max_right _ _))

/-- A token's weight within a document is one over the document's size, elsewhere zero. -/
theorem weight_eq (s : Fin 16) (t : Fin 16384) :
    Pool.weight m c s t = if Within (Pool.cut m c) s t then Ideal.div 1 (size m c s : EReal) else 0 := by
  unfold Pool.weight size
  rw [max_one]
  rfl

/-- The kernel's element is the mean over the tokens within the document's bounds. -/
theorem kernel_mean (s : Fin 16) (d : Fin 768) :
    ∑ t : Fin 16384, Pool.weight m c s t * Pool.hidden m c t d
      = Ideal.div (∑ t ∈ Finset.univ.filter (Within (Pool.cut m c) s), Pool.hidden m c t d) (size m c s : EReal) := by
  simp only [weight_eq]
  exact weighted_sum (Within (Pool.cut m c) s) (fun t => Pool.hidden m c t d) (fun t => tanh_real _) (size m c s) (size_ne m c s)

/-- So is the reference's. -/
theorem reference_mean (h : Bounds (Pool.cut m c)) (b : S768.Idx → EReal) (hb : ∀ d : Fin 768, b (ix1 d) = 0)
    (s : Fin 16) (d : Fin 768) :
    ReferenceIdeal.Read.val_main_v25 (F := Ideal) (Pool.rows m c) (Pool.cuOf m c) (Pool.weights m c) b (ix2 s d)
      = Ideal.div (∑ t ∈ Finset.univ.filter (Within (Pool.cut m c) s), Pool.hidden m c t d) (size m c s : EReal) := by
  have hcard : ((ReferenceIdeal.Docs.tokensOf (Pool.cuOf m c) s).card : ℝ)
      = ((Pool.cuOf m c (ix1 s.succ) - Pool.cuOf m c (ix1 s.castSucc)).toInt : ℝ) := by
    rw [gap m c h s, ← h.count s, tokens_within m c h s, Int.cast_natCast]
  rw [ReferenceIdeal.Docs.result_apply, hcard, max_one, tokens_within m c h s]
  exact congrArg₂ Ideal.div (Finset.sum_congr rfl fun t _ => unbiased m c b hb t d) rfl

/-- The kernel's result is the reference's. -/
theorem array_eq (h : Bounds (Pool.cut m c)) (b : S768.Idx → EReal) (hb : ∀ d : Fin 768, b (ix1 d) = 0) :
    Pool.total m c
      = ReferenceIdeal.Read.val_main_v25 (F := Ideal) (Pool.rows m c) (Pool.cuOf m c) (Pool.weights m c) b := by
  funext i
  rw [eq_ix2 i]
  exact (Pool.total_apply m c (i 0) (i 1)).trans ((kernel_mean m c (i 0) (i 1)).trans (reference_mean m c h b hb (i 0) (i 1)).symm)

end Cert.Means

end
-- ==== Proof.lean ====
/-
  The five claims, assembled: the two kernels' frames (Proof/Pool/Same.lean), the reference's frame
  from its run, the idealization that rewrote nothing, and the equation of the two results over the
  extended reals (Proof/Means/Equation.lean) where the precondition holds (Proof/Means/Documents.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_documents
public import proofs.«01_k».proof.Proof.Pool.Same
public import proofs.«01_k».proof.Proof.Pool.Result
public import proofs.«01_k».proof.Proof.Means.Documents
public import proofs.«01_k».proof.Proof.Means.Equation
public import Idealize.ShloMosaic.Adequacy
public import Idealize.ShloMosaic.Init

@[expose] public section

noncomputable section

namespace Cert.Proof

open Idealize.ShloMosaic Idealize.SL.Sem

/-- The reference runs, keeps its arguments, and has no counter to leave. -/
theorem reference_framed : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- Where the precondition holds, kernel and reference end with one result. -/
theorem algebraic : Cert.algebraic_KernelIdeal_ReferenceIdeal_pre_documents (hKernelIdeal := Cert.KernelIdeal.Gen.facts)
    (hReferenceIdeal := Cert.ReferenceIdeal.Gen.facts) (hPre_documents := Cert.Pre_documents.Gen.facts) := by
  intro m g m' g' hpre hargs
  refine ⟨fun c => Cert.KernelIdeal.Pool.total m c, Cert.KernelIdeal.Pool.runs_total m g, ?_⟩
  refine (θ_run Cert.ReferenceIdeal.defs _ _).mono (fun r h c => ⟨(h c).1.trans ?_, (h c).2⟩)
    (Cert.ReferenceIdeal.Value.run (F := Ideal) m' g')
  obtain ⟨hb, h0⟩ := Cert.Pre_documents.Docs.said _ _ _ _ (hpre c)
  obtain ⟨a0, a1, a2, a3⟩ := hargs c
  refine (Cert.ReferenceIdeal.Read.val_main_v25_eq (F := Ideal) _ _ _ _).trans ?_
  rw [a0, a1, a2, a3]
  exact (Cert.Means.array_eq m c hb _ h0).symm

/-- All the claims. -/
theorem claim : Cert.Claim :=
  ⟨Cert.Kernel.Gen.facts, Cert.KernelIdeal.Gen.facts, Cert.ReferenceIdeal.Gen.facts, Cert.Pre_documents.Gen.facts,
    Cert.Same.kernel_framed, Cert.Same.kernelIdeal_framed, fun m g _ => Cert.Same.kernelIdeal_framed m g trivial,
    reference_framed, fun m g _ => reference_framed m g trivial, trivial, algebraic⟩

end Cert.Proof

end
